-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x2048 : Shape := ⟨2, ![8192, 2048]⟩
abbrev S2048x16 : Shape := ⟨2, ![2048, 16]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x16 : S_.BroadcastsInDim S2048x16 (![] : Fin 0 → Fin S2048x16.rank)
  reducesTo_S2048x16_S_d0_1 : S2048x16.ReducesTo [0, 1] S_

variable [Facts]

def fn {F : FTy → Type} [FloatOps F] (main_arg0 : FVec F S8192x2048 .f32) (main_arg1 : FVec F S2048x16 .f32) (main_arg2 : FVec F S2048x16 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S2048x16 .f32 := Host.absf main_arg1
  let main_cst_0 : FVec F S_ .f32 := constant S_ .f32 0x7F800000#32
  let main_v5 : FVec F S2048x16 .f32 := broadcastInDim S2048x16 ![] bcast_S_S2048x16 main_cst_0
  let main_v6 : IVec S2048x16 1 := cmpf .olt main_v4 main_v5
  let main_c_1 : IVec S_ 1 := constantI S_ 1 1#1
  let main_v7 : IVec S_ 1 := (fun x v => Host.reduce IntOp.andi x v reducesTo_S2048x16_S_d0_1 h_S_) main_v6 main_c_1
  let main_v8 : IVec S_ 1 := andi main_v3 main_v7
  main_v8
-- ==== Kernel.lean ====
abbrev S8192x2048 : Shape := ⟨2, ![8192, 2048]⟩
abbrev S2048x16 : Shape := ⟨2, ![2048, 16]⟩
abbrev S_ : Shape := ⟨0, ![]⟩
abbrev S2048x128 : Shape := ⟨2, ![2048, 128]⟩
abbrev S16x8192 : Shape := ⟨2, ![16, 8192]⟩
abbrev S1x1 : Shape := ⟨2, ![1, 1]⟩
abbrev S1024x2048 : Shape := ⟨2, ![1024, 2048]⟩
abbrev S16x1024 : Shape := ⟨2, ![16, 1024]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩
abbrev S1024x16 : Shape := ⟨2, ![1024, 16]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S8192x16 : Shape := ⟨2, ![8192, 16]⟩

abbrev nBuf : Space → Nat
  | .hbm => 10
  | .vmem => 7
  | .smem => 1
  | _ => 0

abbrev bufTy : (tb : Table) → Fin (tcTables nBuf tb) → BufTy
  | .hbm, ⟨0, _⟩ => ⟨S8192x2048, .f32⟩
  | .hbm, ⟨1, _⟩ => ⟨S2048x16, .f32⟩
  | .hbm, ⟨2, _⟩ => ⟨S2048x16, .f32⟩
  | .hbm, ⟨3, _⟩ => ⟨S_, .i32⟩
  | .hbm, ⟨4, _⟩ => ⟨S_, .f32⟩
  | .hbm, ⟨5, _⟩ => ⟨S2048x128, .f32⟩
  | .hbm, ⟨6, _⟩ => ⟨S16x8192, .f32⟩
  | .hbm, ⟨7, _⟩ => ⟨S1x1, .f32⟩
  | .hbm, ⟨8, _⟩ => ⟨S8192x16, .f32⟩
  | .hbm, ⟨9, _⟩ => ⟨S_, .f32⟩
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S16x1024, .f32⟩
  | .local _ .vmem, ⟨4, _⟩ => ⟨S16x1024, .f32⟩
  | .local _ .vmem, ⟨5, _⟩ => ⟨S1x128, .f32⟩
  | .local _ .vmem, ⟨6, _⟩ => ⟨S1x128, .f32⟩
  | .local _ .smem, ⟨0, _⟩ => ⟨S1x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v90 : BitVec 1 := Scalar.cmpi .eq arg0 c7_i32
  let v91 : BitVec 32 := Scalar.extui v90
  let c0_i32_30 : BitVec 32 := 0#32
  let v92 : BitVec 1 := Scalar.cmpi .ne v91 c0_i32_30
  v92

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S8192x2048 : Shape := ⟨2, ![8192, 2048]⟩
abbrev S2048x16 : Shape := ⟨2, ![2048, 16]⟩
abbrev S8192x16 : Shape := ⟨2, ![8192, 16]⟩
abbrev S8192x2 : Shape := ⟨2, ![8192, 2]⟩
abbrev S_ : Shape := ⟨0, ![]⟩
abbrev S8192 : Shape := ⟨1, ![8192]⟩
abbrev S8192x1 : Shape := ⟨2, ![8192, 1]⟩
abbrev S8192x2x1 : Shape := ⟨3, ![8192, 2, 1]⟩
abbrev S8192x2x2 : Shape := ⟨3, ![8192, 2, 2]⟩
abbrev S16 : Shape := ⟨1, ![16]⟩

abbrev nBuf : Space → Nat
  | .hbm => 76
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x16, .f32⟩
  | .hbm, ⟨2, _⟩ => ⟨S2048x16, .f32⟩
  | .hbm, ⟨3, _⟩ => ⟨S8192x16, .f32⟩
  | .hbm, ⟨4, _⟩ => ⟨S8192x2, .f32⟩
  | .hbm, ⟨5, _⟩ => ⟨S8192x2, .i32⟩
  | .hbm, ⟨6, _⟩ => ⟨S_, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S8192x1, .f32⟩
  | .hbm, ⟨12, _⟩ => ⟨S8192x2, .f32⟩
  | .hbm, ⟨13, _⟩ => ⟨S8192x2, .f32⟩
  | .hbm, ⟨14, _⟩ => ⟨S8192x2, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x2, .f32⟩
  | .hbm, ⟨19, _⟩ => ⟨S8192x2, .f32⟩
  | .hbm, ⟨20, _⟩ => ⟨S8192, .i32⟩
  | .hbm, ⟨21, _⟩ => ⟨S8192x1, .i32⟩
  | .hbm, ⟨22, _⟩ => ⟨S_, .f32⟩
  | .hbm, ⟨23, _⟩ => ⟨S8192x16, .f32⟩
  | .hbm, ⟨24, _⟩ => ⟨S_, .i32⟩
  | .hbm, ⟨25, _⟩ => ⟨S8192x1, .i32⟩
  | .hbm, ⟨26, _⟩ => ⟨S8192x1, .i1⟩
  | .hbm, ⟨27, _⟩ => ⟨S_, .i32⟩
  | .hbm, ⟨28, _⟩ => ⟨S8192x1, .i32⟩
  | .hbm, ⟨29, _⟩ => ⟨S8192x1, .i32⟩
  | .hbm, ⟨30, _⟩ => ⟨S8192x1, .i32⟩
  | .hbm, ⟨31, _⟩ => ⟨S_, .i32⟩
  | .hbm, ⟨32, _⟩ => ⟨S8192x2, .i32⟩
  | .hbm, ⟨33, _⟩ => ⟨S8192x2, .i1⟩
  | .hbm, ⟨34, _⟩ => ⟨S_, .i32⟩
  | .hbm, ⟨35, _⟩ => ⟨S8192x2, .i32⟩
  | .hbm, ⟨36, _⟩ => ⟨S8192x2, .i32⟩
  | .hbm, ⟨37, _⟩ => ⟨S8192x2, .i32⟩
  | .hbm, ⟨38, _⟩ => ⟨S8192x2, .i32⟩
  | .hbm, ⟨39, _⟩ => ⟨S8192x2x1, .i32⟩
  | .hbm, ⟨40, _⟩ => ⟨S8192x2x1, .i32⟩
  | .hbm, ⟨41, _⟩ => ⟨S8192x2x2, .i32⟩
  | .hbm, ⟨42, _⟩ => ⟨S8192x16, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1, .f32⟩
  | .hbm, ⟨49, _⟩ => ⟨S8192x16, .f32⟩
  | .hbm, ⟨50, _⟩ => ⟨S8192x16, .f32⟩
  | .hbm, ⟨51, _⟩ => ⟨S8192x16, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S8192x16, .f32⟩
  | .hbm, ⟨56, _⟩ => ⟨S8192x16, .f32⟩
  | .hbm, ⟨57, _⟩ => ⟨S_, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S8192x16, .f32⟩
  | .hbm, ⟨64, _⟩ => ⟨S8192x16, .i1⟩
  | .hbm, ⟨65, _⟩ => ⟨S8192x16, .f32⟩
  | .hbm, ⟨66, _⟩ => ⟨S_, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S16, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_values : Ref sig .tc := ⟨.hbm, 4, rfl⟩
abbrev main_indices : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_cst_11 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_14 : Ref sig .tc := ⟨.hbm, 72, rfl⟩
abbrev main_v51 : Ref sig .tc := ⟨.hbm, 73, rfl⟩
abbrev main_cst_15 : Ref sig .tc := ⟨.hbm, 74, rfl⟩
abbrev main_v52 : Ref sig .tc := ⟨.hbm, 75, rfl⟩

abbrev nD : Nat := 1
abbrev τ : Topo := Topo.v7x

variable {F : FTy → Type} [FloatOps F]
-- ==== Proof.Rows.lean ====
module

public import Idealize.ShloMosaic.PureOps.Ideal
public import Idealize.ShloMosaic.Lib.IdealHost

/-!
  The mathematics of one row of the router, over the reals.

  A row is sixteen logits `l : Fin 16 → ℝ`. The router keeps its two largest, the earlier position first where two
  logits tie (`Top2 l a b`); their softmax gives the two gates (`gate`), the softmax of the whole row is `prob`, and
  `hit` counts which positions were kept. Of all 8192 rows together the loss is `loss`.

  The second half reads a row padded to 128 lanes with `-∞` (`lane`), the way the kernel holds it: its largest lane,
  the first lane that attains it, the same again with that lane struck out, and sums over the lanes.
-/
@[expose] public section

noncomputable section

open Idealize.ShloMosaic
open scoped BigOperators

namespace Cert.Rows

/-- `a` is the first position of the largest logit, `b` the first position of the largest of the others. -/
structure Top2 (l : Fin 16 → ℝ) (a b : Fin 16) : Prop where
  le_fst : ∀ j, l j ≤ l a
  lt_fst : ∀ j, j < a → l j < l a
  ne : b ≠ a
  le_snd : ∀ j, j ≠ a → l j ≤ l b
  lt_snd : ∀ j, j ≠ a → j < b → l j < l b

/-- A nonempty set of positions has a first one among those where `l` is largest. -/
theorem exists_first (l : Fin 16 → ℝ) (s : Finset (Fin 16)) (hs : s.Nonempty) :
    ∃ a ∈ s, (∀ j ∈ s, l j ≤ l a) ∧ ∀ j ∈ s, j < a → l j < l a := by
  obtain ⟨p, hp, hmax⟩ := s.exists_max_image l hs
  have hne : (s.filter fun j => l j = l p).Nonempty := ⟨p, by simp [hp]⟩
  obtain ⟨a, ha, hmin⟩ := (s.filter fun j => l j = l p).exists_min_image id hne
  rw [Finset.mem_filter] at ha
  refine ⟨a, ha.1, fun j hj => ha.2 ▸ hmax j hj, fun j hj hja => ?_⟩
  refine lt_of_le_of_ne (ha.2 ▸ hmax j hj) fun he => ?_
  have := hmin j (Finset.mem_filter.mpr ⟨hj, he.trans ha.2⟩)
  exact absurd hja (not_lt.mpr this)

/-- Every row has its two kept positions. -/
theorem exists_top2 (l : Fin 16 → ℝ) : ∃ a b, Top2 l a b := by
  obtain ⟨a, _, h1, h2⟩ := exists_first l Finset.univ ⟨0, Finset.mem_univ _⟩
  have hne : (Finset.univ.erase a : Finset (Fin 16)).Nonempty := by
    rw [← Finset.card_pos, Finset.card_erase_of_mem (Finset.mem_univ _), Finset.card_univ, Fintype.card_fin]
    decide
  obtain ⟨b, hb, h3, h4⟩ := exists_first l _ hne
  refine ⟨a, b, fun j => h1 j (Finset.mem_univ _), fun j => h2 j (Finset.mem_univ _), (Finset.mem_erase.mp hb).1,
    fun j hj => h3 j (Finset.mem_erase.mpr ⟨hj, Finset.mem_univ _⟩),
    fun j hj => h4 j (Finset.mem_erase.mpr ⟨hj, Finset.mem_univ _⟩)⟩

/-- The first gate of a row: the larger of the two softmax weights. -/
def g1 (l : Fin 16 → ℝ) (a b : Fin 16) : ℝ := 1 / (1 + Real.exp (l b - l a))

/-- The second gate of a row. -/
def g2 (l : Fin 16 → ℝ) (a b : Fin 16) : ℝ := Real.exp (l b - l a) * g1 l a b

/-- A row of gates: the two softmax weights at the two kept positions, zero elsewhere. -/
def gate (l : Fin 16 → ℝ) (a b j : Fin 16) : ℝ := if j = a then g1 l a b else if j = b then g2 l a b else 0

/-- The softmax of the whole row, shifted by its largest logit. -/
def prob (l : Fin 16 → ℝ) (a c : Fin 16) : ℝ := Real.exp (l c - l a) / ∑ j, Real.exp (l j - l a)

/-- One at the two kept positions, zero elsewhere. -/
def hit (a b c : Fin 16) : ℝ := if c = a ∨ c = b then 1 else 0

/-- The load-balancing loss of all rows. -/
def loss (l : Fin 8192 → Fin 16 → ℝ) (a b : Fin 8192 → Fin 16) : ℝ :=
  16 * ∑ c, ((∑ i, prob (l i) (a i) c) / 8192) * ((∑ i, hit (a i) (b i) c) / 8192)

theorem g1_pos (l : Fin 16 → ℝ) (a b : Fin 16) : 0 < g1 l a b := by
  unfold g1; positivity

theorem g2_pos (l : Fin 16 → ℝ) (a b : Fin 16) : 0 < g2 l a b :=
  mul_pos (Real.exp_pos _) (g1_pos l a b)

theorem sum_exp_pos (l : Fin 16 → ℝ) (m : ℝ) : 0 < ∑ j, Real.exp (l j - m) :=
  Finset.sum_pos (fun _ _ => Real.exp_pos _) ⟨0, Finset.mem_univ _⟩

/-! ## Constants and real numbers inside the extended reals -/

theorem bits_neg_inf : Ideal.ofBits .f32 0xFF800000#32 = ⊥ := by
  simp [Ideal.ofBits, Ideal.ieee]

theorem bits_pos_inf : Ideal.ofBits .f32 0x7F800000#32 = ⊤ := by
  simp [Ideal.ofBits, Ideal.ieee]

theorem bits_16 : Ideal.ofBits .f32 0x41800000#32 = ((16 : ℝ) : EReal) := by
  simp [Ideal.ofBits, Ideal.ieee, -EReal.coe_mul]; norm_num

theorem bits_128 : Ideal.ofBits .f32 0x43000000#32 = ((128 : ℝ) : EReal) := by
  simp [Ideal.ofBits, Ideal.ieee, -EReal.coe_mul]; norm_num

theorem bits_8192 : Ideal.ofBits .f32 0x46000000#32 = ((8192 : ℝ) : EReal) := by
  simp [Ideal.ofBits, Ideal.ieee, -EReal.coe_mul]; norm_num

theorem bits_scale : Ideal.ofBits .f32 0x34800000#32 = ((1 / 4194304 : ℝ) : EReal) := by
  simp [Ideal.ofBits, Ideal.ieee, -EReal.coe_mul]; norm_num

/-- A finite sum of reals is the same sum taken in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division by a nonzero real. -/
theorem div_real (x y : ℝ) (hy : y ≠ 0) : Ideal.div (x : EReal) (y : EReal) = ((x / y : ℝ) : EReal) := by
  rw [Ideal.div_coe hy, ← EReal.coe_mul, mul_one_div]

/-- The largest of a family, folded from `-∞`, is the member that dominates the others. -/
theorem fold_max_eq {n : ℕ} (f : Fin n → EReal) (a : Fin n) (h : ∀ k, f k ≤ f a) :
    Finset.univ.fold max ⊥ f = f a := by
  refine le_antisymm ((Finset.fold_max_le _).mpr ⟨bot_le, fun k _ => h k⟩) ?_
  exact (Finset.le_fold_max _).mpr (Or.inr ⟨a, Finset.mem_univ _, le_rfl⟩)

/-- The least of a family, folded from `+∞`, is the member below the others. -/
theorem fold_min_eq {n : ℕ} (f : Fin n → EReal) (a : Fin n) (h : ∀ k, f a ≤ f k) :
    Finset.univ.fold min ⊤ f = f a := by
  refine le_antisymm ?_ ((Finset.le_fold_min _).mpr ⟨le_top, fun k _ => h k⟩)
  exact (Finset.fold_min_le _).mpr (Or.inr ⟨a, Finset.mem_univ _, le_rfl⟩)

/-! ## A row in 128 lanes -/

/-- Sixteen logits in 128 lanes, the rest `-∞`. -/
def lane (l : Fin 16 → ℝ) (k : Fin 128) : EReal := if h : k.val < 16 then ((l ⟨k.val, h⟩ : ℝ) : EReal) else ⊥

/-- The lane of a position. -/
def wide (a : Fin 16) : Fin 128 := ⟨a.val, by omega⟩

/-- The number of a lane, as the kernel holds it. -/
def num (k : Fin 128) : EReal := ((k.val : ℝ) : EReal)

theorem lane_wide (l : Fin 16 → ℝ) (a : Fin 16) : lane l (wide a) = (l a : EReal) := by
  simp [lane, wide]

theorem num_inj {j k : Fin 128} : num j = num k ↔ j = k := by
  simp [num, EReal.coe_eq_coe_iff, Fin.ext_iff]

theorem num_le {j k : Fin 128} : num j ≤ num k ↔ j ≤ k := by
  simp [num, EReal.coe_le_coe_iff]

theorem num_lt_16 (k : Fin 128) : num k < ((16 : ℝ) : EReal) ↔ k.val < 16 := by
  rw [num, EReal.coe_lt_coe_iff]; exact_mod_cast Iff.rfl

theorem num_le_128 (k : Fin 128) : num k ≤ ((128 : ℝ) : EReal) := by
  rw [num, EReal.coe_le_coe_iff]; exact_mod_cast k.isLt.le

theorem wide_inj {a b : Fin 16} : wide a = wide b ↔ a = b := by simp [wide, Fin.ext_iff]

variable {l : Fin 16 → ℝ} {a b : Fin 16}

/-- The largest lane is the largest logit. -/
theorem max_lane (h : Top2 l a b) : Finset.univ.fold max ⊥ (lane l) = (l a : EReal) := by
  rw [fold_max_eq _ (wide a) fun k => ?_, lane_wide]
  rw [lane_wide]; unfold lane
  split
  · exact EReal.coe_le_coe_iff.mpr (h.le_fst _)
  · exact bot_le

/-- The first lane that holds the largest logit. -/
theorem min_lane (h : Top2 l a b) :
    Finset.univ.fold min ⊤ (fun k => if lane l k = (l a : EReal) then num k else ((128 : ℝ) : EReal)) = num (wide a) := by
  rw [fold_min_eq _ (wide a) fun k => ?_]
  · simp [lane_wide]
  · simp only [lane_wide, if_true]
    split
    · rename_i he
      refine num_le.mpr (not_lt.mp fun hlt => ?_)
      have hk : k.val < 16 := by simp [Fin.lt_def, wide] at hlt; omega
      simp only [lane, hk, dif_pos, EReal.coe_eq_coe_iff] at he
      exact absurd he (h.lt_fst ⟨k.val, hk⟩ (by simpa [Fin.lt_def, wide] using hlt)).ne
    · exact num_le_128 _

/-- The lanes with the first kept position struck out. -/
def struck (l : Fin 16 → ℝ) (a : Fin 16) (k : Fin 128) : EReal := if num k = num (wide a) then ⊥ else lane l k

theorem struck_wide (h : Top2 l a b) : struck l a (wide b) = (l b : EReal) := by
  rw [struck, if_neg (fun e => h.ne (wide_inj.mp (num_inj.mp e))), lane_wide]

/-- The largest lane left is the second kept logit. -/
theorem max_struck (h : Top2 l a b) : Finset.univ.fold max ⊥ (struck l a) = (l b : EReal) := by
  rw [fold_max_eq _ (wide b) fun k => ?_, struck_wide h]
  rw [struck_wide h]; unfold struck lane
  split
  · exact bot_le
  · rename_i hne
    split
    · rename_i hk
      refine EReal.coe_le_coe_iff.mpr (h.le_snd _ fun e => hne ?_)
      rw [← e]; rfl
    · exact bot_le

/-- The first lane left that holds it. -/
theorem min_struck (h : Top2 l a b) :
    Finset.univ.fold min ⊤ (fun k => if struck l a k = (l b : EReal) then num k else ((128 : ℝ) : EReal)) = num (wide b) := by
  rw [fold_min_eq _ (wide b) fun k => ?_]
  · simp [struck_wide h]
  · simp only [struck_wide h, if_true]
    split
    · rename_i he
      refine num_le.mpr (not_lt.mp fun hlt => ?_)
      have hk : k.val < 16 := by simp [Fin.lt_def, wide] at hlt; omega
      have hka : (⟨k.val, hk⟩ : Fin 16) ≠ a := by
        intro e
        rw [struck, if_pos (by rw [← e]; rfl)] at he
        exact EReal.bot_ne_coe _ he
      rw [struck, if_neg (fun e => hka (by have := num_inj.mp e; simp [Fin.ext_iff, wide] at this ⊢; exact this))] at he
      simp only [lane, hk, dif_pos, EReal.coe_eq_coe_iff] at he
      exact absurd he (h.lt_snd ⟨k.val, hk⟩ hka (by simpa [Fin.lt_def, wide] using hlt)).ne
    · exact num_le_128 _

/-- A sum over 128 lanes that vanishes from lane 16 on is the sum of its first sixteen. -/
theorem sum_lanes (f : Fin 128 → ℝ) (hf : ∀ k : Fin 128, 16 ≤ k.val → f k = 0) : ∑ k, f k = ∑ c : Fin 16, f (wide c) := by
  have hinj : Function.Injective wide := fun _ _ e => wide_inj.mp e
  refine Eq.trans ?_ (Finset.sum_map Finset.univ ⟨wide, hinj⟩ f)
  refine (Finset.sum_subset (Finset.subset_univ _) fun k _ hk => hf k ?_).symm
  by_contra hlt
  refine hk (Finset.mem_map.mpr ⟨⟨k.val, by omega⟩, Finset.mem_univ _, ?_⟩)
  exact Fin.ext rfl

/-- The exponential of a lane against the largest logit: a real, zero in the padding. -/
def ex (l : Fin 16 → ℝ) (m : ℝ) (k : Fin 128) : ℝ := if h : k.val < 16 then Real.exp (l ⟨k.val, h⟩ - m) else 0

theorem exp_lane (l : Fin 16 → ℝ) (m : ℝ) (k : Fin 128) : Ideal.exp (lane l k - (m : EReal)) = (ex l m k : EReal) := by
  unfold lane ex
  split
  · rw [← EReal.coe_sub, Ideal.exp_coe]
  · rw [EReal.bot_sub]; rfl

theorem ex_wide (l : Fin 16 → ℝ) (m : ℝ) (c : Fin 16) : ex l m (wide c) = Real.exp (l c - m) := by
  simp [ex, wide]

theorem sum_ex (l : Fin 16 → ℝ) (m : ℝ) : ∑ k, ex l m k = ∑ c, Real.exp (l c - m) := by
  rw [sum_lanes _ fun k hk => ?_]
  · exact Finset.sum_congr rfl fun c _ => ex_wide l m c
  · rw [ex, dif_neg (by omega)]

/-- The softmax weight in a lane: zero in the padding. -/
def probLane (l : Fin 16 → ℝ) (a : Fin 16) (k : Fin 128) : ℝ := ex l (l a) k / ∑ c, Real.exp (l c - l a)

theorem probLane_wide (l : Fin 16 → ℝ) (a c : Fin 16) : probLane l a (wide c) = prob l a c := by
  rw [probLane, ex_wide, prob]

theorem probLane_pad (l : Fin 16 → ℝ) (a : Fin 16) (k : Fin 128) (hk : 16 ≤ k.val) : probLane l a k = 0 := by
  rw [probLane, ex, dif_neg (by omega), zero_div]

theorem prob_lane (l : Fin 16 → ℝ) (a : Fin 16) (k : Fin 128) :
    Ideal.div (Ideal.exp (lane l k - (l a : EReal))) (∑ j, Ideal.exp (lane l j - (l a : EReal))) = (probLane l a k : EReal) := by
  simp only [exp_lane]
  rw [← coe_sum, sum_ex, div_real _ _ (sum_exp_pos l (l a)).ne', probLane]

/-- The count of a lane: one where it is one of the two kept. -/
def hitLane (a b : Fin 16) (k : Fin 128) : ℝ := if k = wide a ∨ k = wide b then 1 else 0

theorem hitLane_wide (a b c : Fin 16) : hitLane a b (wide c) = hit a b c := by
  simp [hitLane, hit, wide_inj]

/-! ## All rows, and the rows up to a block -/

/-- The logits of all rows are the reals `l`, and `a i`, `b i` are the two positions row `i` keeps. -/
structure Logits (x : Fin 8192 → Fin 2048 → EReal) (w : Fin 2048 → Fin 16 → EReal) (l : Fin 8192 → Fin 16 → ℝ)
    (a b : Fin 8192 → Fin 16) : Prop where
  dot : ∀ i c, ∑ d, x i d * w d c = ((l i c : ℝ) : EReal)
  top : ∀ i, Top2 (l i) (a i) (b i)

/-- The sum over the rows of the first `n` blocks. -/
def part (f : Fin 8192 → ℝ) (n : ℕ) : ℝ := ∑ i ∈ Finset.range (n * 1024), if h : i < 8192 then f ⟨i, h⟩ else 0

theorem part_zero (f : Fin 8192 → ℝ) : part f 0 = 0 := by simp [part]

theorem part_succ (f : Fin 8192 → ℝ) (n : ℕ) (hn : ∀ r : Fin 1024, n * 1024 + r.val < 8192) :
    part f (n + 1) = part f n + ∑ r : Fin 1024, f ⟨n * 1024 + r.val, hn r⟩ := by
  unfold part
  rw [show (n + 1) * 1024 = n * 1024 + 1024 by ring, Finset.sum_range_add, Finset.sum_range (n := 1024)]
  refine congrArg _ (Finset.sum_congr rfl fun r _ => ?_)
  rw [dif_pos (hn r)]

theorem part_all (f : Fin 8192 → ℝ) : part f 8 = ∑ i, f i := by
  unfold part
  rw [Finset.sum_range]
  exact Finset.sum_congr rfl fun i _ => dif_pos i.isLt

/-- The loss from the lane sums: the scale `16 / 8192²` of the sum over the lanes is the loss. -/
theorem loss_lanes (l : Fin 8192 → Fin 16 → ℝ) (a b : Fin 8192 → Fin 16) :
    (1 / 4194304 : ℝ) * ∑ k, (∑ i, probLane (l i) (a i) k) * (∑ i, hitLane (a i) (b i) k) = loss l a b := by
  rw [sum_lanes _ fun k hk => ?_]
  · simp only [probLane_wide, hitLane_wide, loss, Finset.mul_sum (Finset.univ : Finset (Fin 16))]
    refine Finset.sum_congr rfl fun c _ => ?_
    ring
  · simp only [probLane_pad _ _ k hk, Finset.sum_const_zero, zero_mul]

end Cert.Rows
-- ==== Proof.KernelBlock.lean ====
module

public import proofs.«01_k».proof.Proof.Rows
public import proofs.«01_k».proof.Proof.Gen.KernelIdeal.Skeleton
public import Idealize.ShloMosaic.Lib.Pipeline.ValueKit
public import Idealize.ShloMosaic.Lib.Pointwise

/-!
  What the router's body computes from one block of 1024 rows of `x` and the padded weights: each of its stored
  values at an index, when the block's logits are real (`Block`).
-/
@[expose] public section

set_option maxRecDepth 16384

noncomputable section

open Idealize.ShloMosaic Idealize.ShloMosaic.TcCoe Idealize.SL.Sem
open scoped BigOperators

namespace Cert.KernelIdeal.Value

open Cert.KernelIdeal Cert.KernelIdeal.Gen Cert.Rows

/-- The block's logits are the real rows `l`, and `a r`, `b r` are the two positions row `r` keeps. -/
structure Block (X : Vec Ideal S1024x2048 .f32) (W : Vec Ideal S2048x128 .f32) (l : Fin 1024 → Fin 16 → ℝ)
    (a b : Fin 1024 → Fin 16) : Prop where
  dot : ∀ (r : Fin 1024) (c : Fin 16), ∑ d : Fin 2048, X (ix2 r d) * W (ix2 d (wide c)) = ((l r c : ℝ) : EReal)
  top : ∀ r, Top2 (l r) (a r) (b r)

variable {X : Vec Ideal S1024x2048 .f32} {W : Vec Ideal S2048x128 .f32} {l : Fin 1024 → Fin 16 → ℝ}
  {a b : Fin 1024 → Fin 16}

/-- The lane numbers. -/
theorem at5 (r : Fin 1024) (k : Fin 128) : k0_pay5 (F := Ideal) (ix2 r k) = num k := by
  pointwise [k0_pay5]
  show (((BitVec.ofNat 32 k.val).toInt : ℝ) : EReal) = ((k.val : ℝ) : EReal)
  have hk := k.isLt
  rw [BitVec.toInt_eq_toNat_of_lt (by rw [BitVec.toNat_ofNat]; omega), BitVec.toNat_ofNat, Nat.mod_eq_of_lt (by omega)]
  norm_cast

/-- The masked logits. -/
theorem at6 (h : Block X W l a b) (r : Fin 1024) (k : Fin 128) : k0_pay6 X W (ix2 r k) = lane (l r) k := by
  pointwise [k0_pay6]
  rw [at5, bits_16, bits_neg_inf]
  unfold lane
  by_cases hk : k.val < 16
  · rw [if_pos ((num_lt_16 k).mpr hk), dif_pos hk, ← h.dot r ⟨k.val, hk⟩]
    rfl
  · rw [if_neg (fun e => hk ((num_lt_16 k).mp e)), dif_neg hk]

/-- The largest logit of each row. -/
theorem at7 (h : Block X W l a b) (r : Fin 1024) (k : Fin 1) : k0_pay7 X W (ix2 r k) = ((l r (a r) : ℝ) : EReal) := by
  pointwise [k0_pay7]
  simp only [at6 h, bits_neg_inf]
  exact max_lane (h.top r)

/-- Its first position. -/
theorem at8 (h : Block X W l a b) (r : Fin 1024) (k : Fin 1) : k0_pay8 X W (ix2 r k) = num (wide (a r)) := by
  pointwise [k0_pay8]
  simp only [at6 h, at7 h, at5, bits_pos_inf, bits_128]
  exact min_lane (h.top r)

/-- The logits with that position struck out. -/
theorem at9 (h : Block X W l a b) (r : Fin 1024) (k : Fin 128) : k0_pay9 X W (ix2 r k) = struck (l r) (a r) k := by
  pointwise [k0_pay9]
  simp only [at6 h, at8 h, at5, bits_neg_inf]
  rfl

/-- The second largest logit of each row. -/
theorem at10 (h : Block X W l a b) (r : Fin 1024) (k : Fin 1) : k0_pay10 X W (ix2 r k) = ((l r (b r) : ℝ) : EReal) := by
  pointwise [k0_pay10]
  simp only [at9 h, bits_neg_inf]
  exact max_struck (h.top r)

/-- Its first position. -/
theorem at11 (h : Block X W l a b) (r : Fin 1024) (k : Fin 1) : k0_pay11 X W (ix2 r k) = num (wide (b r)) := by
  pointwise [k0_pay11]
  simp only [at9 h, at10 h, at5, bits_pos_inf, bits_128]
  exact min_struck (h.top r)

/-- The exponential of the two logits' difference. -/
theorem at12 (h : Block X W l a b) (r : Fin 1024) (k : Fin 1) :
    k0_pay12 X W (ix2 r k) = ((Real.exp (l r (b r) - l r (a r)) : ℝ) : EReal) := by
  pointwise [k0_pay12]
  rw [at10 h, at7 h, ← EReal.coe_sub, Ideal.exp_coe]

/-- The two gates' denominator. -/
theorem at13 (h : Block X W l a b) (r : Fin 1024) (k : Fin 1) :
    k0_pay13 X W (ix2 r k) = ((1 + Real.exp (l r (b r) - l r (a r)) : ℝ) : EReal) := by
  pointwise [k0_pay13]
  rw [at12 h, EReal.coe_add, EReal.coe_one]

theorem at14 (r : Fin 1024) (k : Fin 1) : k0_pay14 (F := Ideal) (ix2 r k) = ((1 : ℝ) : EReal) := by
  pointwise [k0_pay14]
  exact EReal.coe_one.symm

/-- The first gate. -/
theorem div_g1 (r : Fin 1024) :
    Ideal.div ((1 : ℝ) : EReal) ((1 + Real.exp (l r (b r) - l r (a r)) : ℝ) : EReal) = ((g1 (l r) (a r) (b r) : ℝ) : EReal) := by
  rw [div_real _ _ (by positivity)]; rfl

/-- The gates the body stores, transposed. -/
theorem gates_at (h : Block X W l a b) (r : Fin 1024) (c : Fin 16) :
    k0_pay17 k0_pay5 (k0_pay8 X W) (k0_pay11 X W) (k0_pay12 X W) (k0_pay13 X W) k0_pay14 (ix2 c r)
      = ((gate (l r) (a r) (b r) c : ℝ) : EReal) := by
  pointwise [k0_pay17, k0_pay15, k0_pay16]
  simp only [at5, at8 h, at11 h, at12 h, at13 h, at14, div_g1]
  have e : (⟨c.val, by omega⟩ : Fin 128) = wide c := rfl
  simp only [e, num_inj, wide_inj]
  unfold gate g2
  split
  · rfl
  split
  · rw [EReal.coe_mul]
  · rw [EReal.coe_zero]

/-- The update of the running softmax sums. -/
theorem probs_at (h : Block X W l a b) (v : Vec Ideal S1x128 .f32) (z : Fin 1) (k : Fin 128) :
    k0_pay18 (k0_pay6 X W) (k0_pay7 X W) v (ix2 z k)
      = v (ix2 z k) + ((∑ r, probLane (l r) (a r) k : ℝ) : EReal) := by
  pointwise [k0_pay18]
  simp only [at6 h, at7 h, prob_lane]
  rw [coe_sum]

/-- A one-bit truth value as an integer, then as a real. -/
theorem bit_real (p : Prop) [Decidable p] :
    FloatOps.sitofp (F := Ideal) FTy.f32 (BitVec.setWidth 32 (BitVec.ofBool (decide p))) = ((if p then (1 : ℝ) else 0 : ℝ) : EReal) := by
  show ((((BitVec.setWidth 32 (BitVec.ofBool (decide p))).toInt : ℝ)) : EReal) = _
  by_cases hp : p <;> simp [hp]

/-- The update of the running counts. -/
theorem hits_at (h : Block X W l a b) (v : Vec Ideal S1x128 .f32) (z : Fin 1) (k : Fin 128) :
    k0_pay1 v (k0_pay19 k0_pay5 (k0_pay8 X W) (k0_pay11 X W) (k0_pay12 X W) (k0_pay13 X W) k0_pay14) (ix2 z k)
      = v (ix2 z k) + ((∑ r, hitLane (a r) (b r) k : ℝ) : EReal) := by
  pointwise [k0_pay1, k0_pay19, k0_pay15, k0_pay16]
  simp only [at5, at8 h, at11 h, at12 h, at13 h, at14, div_g1, ← EReal.coe_mul, num_inj, coe_sum]
  refine congrArg _ (Finset.sum_congr rfl fun r _ => ?_)
  have hp : (0 : EReal) < ((Real.exp (l r (b r) - l r (a r)) * g1 (l r) (a r) (b r) : ℝ) : EReal) :=
    EReal.coe_pos.mpr (g2_pos (l r) (a r) (b r))
  have e : IntOp.andi (BitVec.ofBool (decide (k = wide (b r))))
      (BitVec.ofBool (decide ((0 : EReal) < ((Real.exp (l r (b r) - l r (a r)) * g1 (l r) (a r) (b r) : ℝ) : EReal))))
      = BitVec.ofBool (decide (k = wide (b r))) := by
    rw [decide_eq_true hp]
    by_cases hk : k = wide (b r) <;> simp [hk, IntOp.andi]
  rw [e, bit_real, bit_real, ← EReal.coe_add]
  congr 1
  have hne : wide (b r) ≠ wide (a r) := fun e => (h.top r).ne (wide_inj.mp e)
  unfold hitLane
  by_cases ha : k = wide (a r)
  · have : k ≠ wide (b r) := fun e => hne (e.symm.trans ha)
    simp [ha, hne.symm]
  · by_cases hb : k = wide (b r)
    · simp [hb, hne]
    · simp [ha, hb]

/-- The loss the last point stores. -/
theorem aux_at (u v : Vec Ideal S1x128 .f32) :
    k0_pay2 u v = ((1 / 4194304 : ℝ) : EReal) * ∑ k : Fin 128, u (ix2 0 k) * v (ix2 0 k) := by
  pointwise [k0_pay2]
  rw [bits_scale, Fin.sum_univ_one]

theorem zero3 (z : Fin 1) (k : Fin 128) : k0_pay3 (F := Ideal) (ix2 z k) = 0 := by pointwise [k0_pay3]

theorem zero4 (z : Fin 1) (k : Fin 128) : k0_pay4 (F := Ideal) (ix2 z k) = 0 := by pointwise [k0_pay4]

end Cert.KernelIdeal.Value
-- ==== Proof.KernelPoint.lean ====
module

public import proofs.«01_k».proof.Proof.KernelBlock
public import proofs.«01_k».proof.Proof.Gen.KernelIdeal.Frame

@[expose] public section

set_option maxRecDepth 16384
noncomputable section
open Idealize.ShloMosaic Idealize.ShloMosaic.TcCoe Idealize.SL.Sem
open Idealize.ShloMosaic.Pipeline (Dat)
open scoped BigOperators
namespace Cert.KernelIdeal.Value
open Cert.KernelIdeal Cert.KernelIdeal.Gen Cert.Rows
variable (m : (ℓ : Loc nD τ sig) → Buf (Elt Ideal) ℓ)

/-- The windows' block indices at every point of the grid. -/
theorem idx : ∀ t : Fin cfg0.N, win0_0.index t = ![t.val, 0] ∧ win0_1.index t = ![0, 0] ∧ win0_2.index t = ![0, t.val]
    ∧ win0_3.index t = ![0, 0] := (by decide +kernel : ∀ t : Fin grid0.N, _)

theorem rows_lt (t : Fin cfg0.N) (r : Fin 1024) : t.val * 1024 + r.val < 8192 := by
  have h : t.val < 8 := Nat.lt_of_lt_of_eq t.isLt N_0
  omega

/-- Row `r` of the block of point `t`, as a row of the whole input. -/
def rowOf (t : Fin cfg0.N) (r : Fin 1024) : Fin 8192 := ⟨t.val * 1024 + r.val, rows_lt t r⟩

theorem x_at (c : Dev nD) (t : Fin cfg0.N) (r : Fin 1024) (d : Fin 2048) :
    iblk m c 0 t (ix2 r d) = m ((c : Thread nD τ).loc main_arg0) (ix2 (rowOf t r) d) := by
  have := rows_lt t r
  unfold rowOf
  blk_ext [iblk, V, idx t]

theorem w_at (c : Dev nD) (t : Fin cfg0.N) (d : Fin 2048) (k : Fin 16) :
    iblk m c 1 t (ix2 d (wide k)) = m ((c : Thread nD τ).loc main_arg1) (ix2 d k) := by
  have e : iblk m c 1 t (ix2 d (wide k)) = V m c main_v0 (ix2 d (wide k)) := by
    blk_ext [iblk, idx t]
  rw [e]
  show StableHlo.after (List.flatten [hostOps0, hostOps0_1]) (fun b => m (c, b)) (Proc.tc.devRef main_v0) (ix2 d (wide k)) = _
  simp only [hostOps0, hostOps0_1, List.flatten_cons, List.flatten_nil, List.append_nil, List.cons_append, List.nil_append]
  entry_read
  show pad S2048x128 ![0, 0] ![0, 112] ![0, 0] (m ((c : Thread nD τ).loc main_arg1) : FVec Ideal S2048x16 .f32)
    (sitofp (F := Ideal) FTy.f32 (constantI S_ 32 0#32)) pads_S2048x16_S2048x128_000_01120 h_S_ (ix2 d (wide k)) = _
  pointwise
  rw [dif_pos]
  · rfl
  · rintro ⟨q, hq⟩
    have hk := k.isLt
    have hd := d.isLt
    match q, hq with
    | 0, _ => exact ⟨Nat.zero_le _, Nat.mod_one _, by show d.val / 1 < 2048; omega⟩
    | 1, _ => exact ⟨Nat.zero_le _, Nat.mod_one _, by show k.val / 1 < 16; omega⟩

/-- The kernel's two inputs by coordinates. -/
abbrev xOf (c : Dev nD) (i : Fin 8192) (d : Fin 2048) : EReal := m ((c : Thread nD τ).loc main_arg0) (ix2 i d)

abbrev wOf (c : Dev nD) (d : Fin 2048) (j : Fin 16) : EReal := m ((c : Thread nD τ).loc main_arg1) (ix2 d j)

variable {m} {c : Dev nD} {l : Fin 8192 → Fin 16 → ℝ} {a b : Fin 8192 → Fin 16}

/-- Each block of the input is a block of the rows. -/
theorem block (h : Logits (xOf m c) (wOf m c) l a b) (t : Fin cfg0.N) :
    Block (iblk m c 0 t) (iblk m c 1 t) (fun r => l (rowOf t r)) (fun r => a (rowOf t r)) (fun r => b (rowOf t r)) where
  dot r k := by
    rw [← h.dot (rowOf t r) k]
    exact Finset.sum_congr rfl fun d _ => congrArg₂ _ (x_at m c t r d) (w_at m c t d k)
  top r := h.top (rowOf t r)

/-- The gates' buffer after any point. -/
theorem gates_point (h : Logits (xOf m c) (wOf m c) l a b) (t : Fin cfg0.N) (k : Fin 16) (r : Fin 1024) :
    (outsAt0 m c t.val t.isLt).1 (ix2 k r)
      = ((gate (l (rowOf t r)) (a (rowOf t r)) (b (rowOf t r)) k : ℝ) : EReal) := by
  have ht : t.val < 8 := Nat.lt_of_lt_of_eq t.isLt N_0
  have hg := gates_at (block h t) r k
  by_cases h0 : t.val % 8 = 0
  · rw [outsAt0_A m c t h0 (by omega)]
    frame_out
    exact hg
  · by_cases h1 : t.val % 8 = 7
    · rw [outsAt0_C m c t h0 h1]
      frame_out
      exact hg
    · rw [outsAt0_B m c t h0 h1]
      frame_out
      exact hg

/-- The gates' array after the run. -/
theorem gates_final (h : Logits (xOf m c) (wOf m c) l a b) (k : Fin 16) (i : Fin 8192) :
    (dats m 0 c).arrAt 2 cfg0.N (ix2 k i) = ((gate (l i) (a i) (b i) k : ℝ) : EReal) := by
  have e : (dats m 0 c).arrAt 2 cfg0.N
      = fun j : S16x8192.Idx => ((gate (l (j 1)) (a (j 1)) (b (j 1)) (j 0) : ℝ) : EReal) := by
    refine (dats m 0 c).arrAt_eq_of_covers 2 _ (by decide +kernel) fun t _ y => ?_
    blk_simp
    rw [after0_2]
    suffices hy : ∀ y : S16x1024.Idx, (outsAt0 m c t.val t.isLt).1 y
        = ((gate (l ((win0_2.blk t).view.emb y 1)) (a ((win0_2.blk t).view.emb y 1)) (b ((win0_2.blk t).view.emb y 1))
            ((win0_2.blk t).view.emb y 0) : ℝ) : EReal) from hy y
    intro y
    idx_vars y
    have ey : ((View.whole main_v1_0).slice (win0_2.rect t)).emb (ix2 y0 y1) = ix2 y0 (rowOf t y1) := by
      have := rows_lt t y1
      unfold rowOf
      blk_ext [idx t]
    rw [ey]
    exact gates_point h t y0 y1
  exact congrFun e (ix2 k i)

/-- Reading back a scratch buffer stored whole. -/
theorem keep0 (v : Vec Ideal S1x128 .f32) :
    View.read (Elt Ideal) (View.whole cc0_scratch0) ((Memref.isWhole_whole cc0_scratch0).unread v) = v :=
  (Memref.isWhole_whole cc0_scratch0).read_unread v

theorem keep1 (v : Vec Ideal S1x128 .f32) :
    View.read (Elt Ideal) (View.whole cc0_scratch1) ((Memref.isWhole_whole cc0_scratch1).unread v) = v :=
  (Memref.isWhole_whole cc0_scratch1).read_unread v

/-- The running softmax sums after a later point, over those the point before left. -/
theorem probs_step (c : Dev nD) (t : Fin cfg0.N) (h0 : ¬t.val % 8 = 0) : (outsAt0 m c t.val t.isLt).2.2.1
    = k0_pay18 (k0_pay6 (iblk m c 0 t) (iblk m c 1 t)) (k0_pay7 (iblk m c 0 t) (iblk m c 1 t))
        (outsAt0 m c (t.val - 1) (Nat.lt_of_le_of_lt (Nat.sub_le _ _) t.isLt)).2.2.1 := by
  by_cases h1 : t.val % 8 = 7
  · rw [outsAt0_C m c t h0 h1]
    frame_out
    rw [keep0]
  · rw [outsAt0_B m c t h0 h1]
    frame_out
    rw [keep0]

/-- The running counts after a later point, over those the point before left. -/
theorem hits_step (c : Dev nD) (t : Fin cfg0.N) (h0 : ¬t.val % 8 = 0) : (outsAt0 m c t.val t.isLt).2.2.2
    = k0_pay1 (outsAt0 m c (t.val - 1) (Nat.lt_of_le_of_lt (Nat.sub_le _ _) t.isLt)).2.2.2
        (k0_pay19 k0_pay5 (k0_pay8 (iblk m c 0 t) (iblk m c 1 t)) (k0_pay11 (iblk m c 0 t) (iblk m c 1 t))
          (k0_pay12 (iblk m c 0 t) (iblk m c 1 t)) (k0_pay13 (iblk m c 0 t) (iblk m c 1 t)) k0_pay14) := by
  by_cases h1 : t.val % 8 = 7
  · rw [outsAt0_C m c t h0 h1]
    frame_out
    rw [keep1]
  · rw [outsAt0_B m c t h0 h1]
    frame_out
    rw [keep1]

/-- The loss the last point stores, over the running sums it leaves. -/
theorem aux_step (c : Dev nD) (t : Fin cfg0.N) (h1 : t.val % 8 = 7) : (outsAt0 m c t.val t.isLt).2.1
    = fun _ => k0_pay2 (outsAt0 m c t.val t.isLt).2.2.1 (outsAt0 m c t.val t.isLt).2.2.2 := by
  have h0 : ¬t.val % 8 = 0 := by omega
  rw [probs_step c t h0, hits_step c t h0, outsAt0_C m c t h0 h1]
  frame_out
  rw [keep0, keep1]
  rfl

/-- The two running sums after any point: the sums over the rows so far. -/
theorem sums_point (h : Logits (xOf m c) (wOf m c) l a b) (k : Fin 128) : ∀ (n : ℕ) (hn : n < cfg0.N),
    (outsAt0 m c n hn).2.2.1 (ix2 0 k) = ((part (fun i => probLane (l i) (a i) k) (n + 1) : ℝ) : EReal)
    ∧ (outsAt0 m c n hn).2.2.2 (ix2 0 k) = ((part (fun i => hitLane (a i) (b i) k) (n + 1) : ℝ) : EReal)
  | 0, hn => by
    have hp := probs_at (block h ⟨0, hn⟩) (k0_pay3 (F := Ideal)) 0 k
    have hh := hits_at (block h ⟨0, hn⟩) (k0_pay4 (F := Ideal)) 0 k
    rw [zero3, zero_add] at hp
    rw [zero4, zero_add] at hh
    rw [part_succ _ _ (rows_lt ⟨0, hn⟩), part_succ _ _ (rows_lt ⟨0, hn⟩), part_zero, part_zero, zero_add, zero_add]
    rw [outsAt0_A m c ⟨0, hn⟩ rfl (by simp)]
    constructor
    · frame_out
      exact hp
    · frame_out
      exact hh
  | n + 1, hn => by
    have hlt : n + 1 < 8 := Nat.lt_of_lt_of_eq hn N_0
    obtain ⟨ip, ih⟩ := sums_point h k n (Nat.lt_of_succ_lt hn)
    have hp := probs_at (block h ⟨n + 1, hn⟩) (outsAt0 m c n (Nat.lt_of_succ_lt hn)).2.2.1 0 k
    have hh := hits_at (block h ⟨n + 1, hn⟩) (outsAt0 m c n (Nat.lt_of_succ_lt hn)).2.2.2 0 k
    rw [ip, ← EReal.coe_add] at hp
    rw [ih, ← EReal.coe_add] at hh
    rw [part_succ _ (n + 1) (rows_lt ⟨n + 1, hn⟩), part_succ _ (n + 1) (rows_lt ⟨n + 1, hn⟩)]
    have h0 : ¬(⟨n + 1, hn⟩ : Fin cfg0.N).val % 8 = 0 := by dsimp only; omega
    exact ⟨(congrFun (probs_step c ⟨n + 1, hn⟩ h0) _).trans hp, (congrFun (hits_step c ⟨n + 1, hn⟩ h0) _).trans hh⟩

/-- The loss's array after the run. -/
theorem aux_final (h : Logits (xOf m c) (wOf m c) l a b) :
    (dats m 0 c).arrAt 3 cfg0.N = fun _ => ((loss l a b : ℝ) : EReal) := by
  refine (dats m 0 c).arrAt_eq_of_covers 3 _ (by decide +kernel) fun t hf y => ?_
  blk_simp
  have h1 := (flush0_3 t).mp hf
  have ht : t.val < 8 := Nat.lt_of_lt_of_eq t.isLt N_0
  have e8 : t.val + 1 = 8 := by omega
  rw [after0_3, aux_step c t h1]
  show k0_pay2 _ _ = _
  rw [aux_at]
  simp only [(sums_point h _ t.val t.isLt).1, (sums_point h _ t.val t.isLt).2, e8, part_all, ← EReal.coe_mul, ← coe_sum]
  rw [loss_lanes]

end Cert.KernelIdeal.Value
-- ==== Proof.KernelRun.lean ====
module

public import proofs.«01_k».proof.Proof.KernelPoint

@[expose] public section

set_option maxRecDepth 16384
noncomputable section
open Idealize.ShloMosaic Idealize.ShloMosaic.TcCoe Idealize.SL.Sem
open Idealize.ShloMosaic.Pipeline (Dat)
namespace Cert.KernelIdeal.Value
open Cert.KernelIdeal Cert.KernelIdeal.Gen Cert.Rows

/-- The two results as arrays. -/
def gatesOf (l : Fin 8192 → Fin 16 → ℝ) (a b : Fin 8192 → Fin 16) : FVec Ideal S8192x16 .f32 :=
  fun j => ((gate (l (j 0)) (a (j 0)) (b (j 0)) (j 1) : ℝ) : EReal)

def lossOf (l : Fin 8192 → Fin 16 → ℝ) (a b : Fin 8192 → Fin 16) : FVec Ideal S_ .f32 := fun _ => ((loss l a b : ℝ) : EReal)

variable {m : (ℓ : Loc nD τ sig) → Buf (Elt Ideal) ℓ}

theorem spec_inj : Function.Injective (Pipeline.arrRef spec0) := by decide +kernel

/-- The transposed gates after the host line that follows the region. -/
theorem W_gates {c : Dev nD} {l : Fin 8192 → Fin 16 → ℝ} {a b : Fin 8192 → Fin 16}
    (h : Logits (xOf m c) (wOf m c) l a b) :
    Pipeline.afterTail₀ cfgs (dats m) 0 (V0 m) [hostOps1] c main_v2 = gatesOf l a b := by
  have e : Pipeline.afterTail₀ cfgs (dats m) 0 (V0 m) [hostOps1] c main_v2
      = transpose S8192x16 [1, 0] ((dats m 0 c).arrAt 2 cfg0.N : FVec Ideal S16x8192 .f32) transposes_S16x8192_S8192x16_1_0 := by
    unfold Pipeline.afterTail₀
    simp only [hostOps1, List.flatten_cons, List.flatten_nil, List.append_nil]
    entry_read
    exact congrArg (fun z : FVec Ideal S16x8192 .f32 => transpose S8192x16 [1, 0] z transposes_S16x8192_S8192x16_1_0)
      (Pipeline.withArrays_arr spec0 spec_inj c (V0 m c) (fun w => (dats m 0 c).arrAt w cfg0.N) 2)
  rw [e]
  funext j
  idx_vars j
  pointwise
  exact gates_final h j1 j0

theorem W_loss {c : Dev nD} {l : Fin 8192 → Fin 16 → ℝ} {a b : Fin 8192 → Fin 16}
    (h : Logits (xOf m c) (wOf m c) l a b) :
    Pipeline.afterTail₀ cfgs (dats m) 0 (V0 m) [hostOps1] c main_v3 = lossOf l a b := by
  have e : Pipeline.afterTail₀ cfgs (dats m) 0 (V0 m) [hostOps1] c main_v3
      = shapeCast S_ ((dats m 0 c).arrAt 3 cfg0.N : FVec Ideal S1x1 .f32) shapeCasts_S1x1_S_ := by
    unfold Pipeline.afterTail₀
    simp only [hostOps1, List.flatten_cons, List.flatten_nil, List.append_nil]
    entry_read
    exact congrArg (fun z : FVec Ideal S1x1 .f32 => shapeCast S_ z shapeCasts_S1x1_S_)
      (Pipeline.withArrays_arr spec0 spec_inj c (V0 m c) (fun w => (dats m 0 c).arrAt w cfg0.N) 3)
  rw [e, aux_final h]
  rfl

/-- The kernel's run on inputs whose logits are real: the gates, the loss, the arguments unchanged. -/
theorem run (ρ : Dev nD → PrngReg) (l : Dev nD → Fin 8192 → Fin 16 → ℝ) (a b : Dev nD → Fin 8192 → Fin 16)
    (h : ∀ c, Logits (xOf m c) (wOf m c) (l c) (a c) (b c)) :
    θ_run defs (onTc (τ := τ) (main (F := Ideal))) ⟨m, fun _ => 0, ρ⟩ fun r => ∀ c : Dev nD,
      r.2.mem ((c : Thread nD τ).loc main_v2) = gatesOf (l c) (a c) (b c)
      ∧ r.2.mem ((c : Thread nD τ).loc main_v3) = lossOf (l c) (a c) (b c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ hr c =>
    ⟨((hr c).2 main_v2 (Pipeline.mem_restRefs_of main_v2 (by decide) (by decide))).trans (W_gates (h c)),
     ((hr c).2 main_v3 (Pipeline.mem_restRefs_of main_v3 (by decide) (by decide))).trans (W_loss (h c)),
     ((hr c).1 0).trans (((dats m 0 c).arrAt_in 0 rfl _).trans ((A_eq m c 0).trans (V_main_arg0 m c))),
     ((hr c).2 main_arg1 (Pipeline.mem_restRefs_of main_arg1 (by decide) (by decide))).trans (W_main_arg1 m _ c),
     ((hr c).2 main_arg2 (Pipeline.mem_restRefs_of main_arg2 (by decide) (by decide))).trans (W_main_arg2 m _ c)⟩)
    (run_main m ρ)

end Cert.KernelIdeal.Value
-- ==== Proof.TopK.lean ====
module

public import proofs.«01_k».proof.Proof.Rows
public import proofs.«01_k».proof.Proof.Gen.ReferenceIdeal
public import Idealize.ShloMosaic.Lib.SortFacts
public import Idealize.ShloMosaic.Lib.Pointwise

/-!
  The reference's `top_k` of a row of 16 real logits: the first two positions of the stable sort are the two that
  `Top2` names, with their logits.
-/
@[expose] public section

set_option maxRecDepth 16384

noncomputable section

open Idealize.ShloMosaic

namespace Cert.ReferenceIdeal.Value

open Cert.ReferenceIdeal Cert.ReferenceIdeal.Gen Cert.Rows

/-- A larger entry, or an equal one further to the left. -/
def Ahead {n : ℕ} (l : Fin n → ℝ) (x y : Fin n) : Prop := l y < l x ∨ (l x = l y ∧ x < y)

theorem Ahead.trans {n : ℕ} {l : Fin n → ℝ} {x y z : Fin n} (h : Ahead l x y) (h' : Ahead l y z) : Ahead l x z := by
  rcases h with h | ⟨e, h⟩ <;> rcases h' with h' | ⟨e', h'⟩
  · exact .inl (h'.trans h)
  · exact .inl (e' ▸ h)
  · exact .inl (e ▸ h')
  · exact .inr ⟨e.trans e', h.trans h'⟩

/-- Putting a position in front of which none of the list stands keeps the list in order. -/
theorem insert_ordered {n : ℕ} (l : Fin n → ℝ) (x : Fin n) (m : List (Fin n)) (hx : ∀ y ∈ m, x < y)
    (hm : m.Pairwise (Ahead l)) :
    (insertBefore (fun p q => decide (l q < l p)) x m).Pairwise (Ahead l) := by
  induction m with
  | nil => exact List.pairwise_singleton _ _
  | cons y m ih =>
    obtain ⟨h1, h2⟩ := List.pairwise_cons.mp hm
    unfold insertBefore
    by_cases hlt : l x < l y
    · rw [if_pos (decide_eq_true hlt)]
      refine List.pairwise_cons.mpr ⟨fun z hz => ?_, ih (fun z hz => hx z (List.mem_cons_of_mem _ hz)) h2⟩
      rcases List.mem_cons.mp ((perm_insertBefore _ x m).mem_iff.mp hz) with rfl | hz
      · exact .inl hlt
      · exact h1 z hz
    · rw [if_neg (by simpa using hlt)]
      have hxy : Ahead l x y := by
        rcases lt_or_eq_of_le (not_lt.mp hlt) with h | h
        · exact .inl h
        · exact .inr ⟨h.symm, hx y List.mem_cons_self⟩
      refine List.pairwise_cons.mpr ⟨fun z hz => ?_, hm⟩
      rcases List.mem_cons.mp hz with rfl | hz
      · exact hxy
      · exact hxy.trans (h1 z hz)

/-- The stable sort of increasing positions is in order. -/
theorem sort_ordered {n : ℕ} (l : Fin n → ℝ) (m : List (Fin n)) (hm : m.Pairwise (· < ·)) :
    (stableSort (fun p q => decide (l q < l p)) m).Pairwise (Ahead l) := by
  induction m with
  | nil => exact List.Pairwise.nil
  | cons x m ih =>
    obtain ⟨h1, h2⟩ := List.pairwise_cons.mp hm
    unfold stableSort
    exact insert_ordered l x _ (fun y hy => h1 y ((perm_stableSort _ m).mem_iff.mp hy)) (ih h2)

/-- Later places of the sort hold positions that stand behind those of earlier places. -/
theorem sorted_ahead {n : ℕ} (l : Fin n → ℝ) (i j : Fin n) (hij : i < j) :
    Ahead l (sortedFrom (fun p q => decide (l q < l p)) i) (sortedFrom (fun p q => decide (l q < l p)) j) := by
  have hp : ∀ p q : Fin (sortPositions n fun p q => decide (l q < l p)).length, p < q →
      Ahead l ((sortPositions n fun p q => decide (l q < l p)).get p) ((sortPositions n fun p q => decide (l q < l p)).get q) :=
    List.pairwise_iff_get.mp (sort_ordered l (List.finRange n) (List.pairwise_lt_finRange n))
  unfold sortedFrom
  exact hp _ _ (by simp only [Fin.lt_def, Fin.val_cast]; exact hij)

/-- The sort's first place holds the first position of the row's largest logit. -/
theorem sorted_fst {l : Fin 16 → ℝ} {a b : Fin 16} (h : Top2 l a b) :
    sortedFrom (fun p q => decide (l q < l p)) 0 = a := by
  obtain ⟨k, hk⟩ := sortedFrom_surjective (fun p q => decide (l q < l p)) a
  rcases Fin.eq_zero_or_eq_succ k with rfl | ⟨k', rfl⟩
  · exact hk
  · have := sorted_ahead l 0 k'.succ (Fin.succ_pos _)
    rw [hk] at this
    rcases this with e | ⟨e, e'⟩
    · exact absurd e (not_lt.mpr (h.le_fst _))
    · exact absurd e (ne_of_lt (h.lt_fst _ e'))

/-- The sort's second place holds the first position of the largest logit of the others. -/
theorem sorted_snd {l : Fin 16 → ℝ} {a b : Fin 16} (h : Top2 l a b) :
    sortedFrom (fun p q => decide (l q < l p)) 1 = b := by
  have hne : sortedFrom (fun p q => decide (l q < l p)) 1 ≠ a := fun e => by
    have := sortedFrom_injective _ (e.trans (sorted_fst h).symm)
    exact absurd this (by decide)
  obtain ⟨k, hk⟩ := sortedFrom_surjective (fun p q => decide (l q < l p)) b
  rcases lt_trichotomy k 1 with hk1 | rfl | hk1
  · have : k = 0 := by ext; have : k.val < 1 := hk1; simpa using this
    subst this
    exact absurd (hk.symm.trans (sorted_fst h)) h.ne
  · exact hk
  · have := sorted_ahead l 1 k hk1
    rw [hk] at this
    rcases this with e | ⟨e, e'⟩
    · exact absurd e (not_lt.mpr (h.le_snd _ hne))
    · exact absurd e (ne_of_lt (h.lt_snd _ hne e'))

/-- The two results of the reference's `top_k`, by name. -/
abbrev topVals (D : FVec Ideal S8192x16 .f32) : FVec Ideal S8192x2 .f32 :=
  (Host.topK S8192x2 1 (FloatOps.cmpfTotal .gt) D sliceFits_S8192x16_S8192x2).1
abbrev topIdxs (D : FVec Ideal S8192x16 .f32) : IVec S8192x2 32 :=
  (Host.topK S8192x2 1 (FloatOps.cmpfTotal .gt) D sliceFits_S8192x16_S8192x2).2

/-- The place `k` of row `i`'s sort. -/
def place (D : FVec Ideal S8192x16 .f32) (i : Fin 8192) : Fin 16 → Fin 16 :=
  sortedFrom (fun p q => FloatOps.cmpfTotal .gt (D (ix2 i p)) (D (ix2 i q)) == 1#1)

/-- Moving along the second axis replaces the second coordinate. -/
theorem along_eq (j : S8192x16.Idx) (q : Fin 16) : j.along 1 q = ix2 (j 0) q := by
  funext d
  fin_cases d <;> rfl

/-- The element that the sort moves to index `J`. -/
theorem sorted_at (D : FVec Ideal S8192x16 .f32) (J : S8192x16.Idx) :
    J.along 1 (sortedFrom (fun p q : Fin 16 => FloatOps.cmpfTotal .gt (D (J.along 1 p)) (D (J.along 1 q)) == 1#1) (J 1))
      = ix2 (J 0) (place D (J 0) (J 1)) := by
  refine (along_eq J _).trans (congrArg (ix2 (J 0)) ?_)
  refine congrFun (congrArg _ (funext fun p => funext fun q => ?_)) (J 1)
  exact congrArg₂ (fun u v => FloatOps.cmpfTotal .gt (D u) (D v) == 1#1) (along_eq J p) (along_eq J q)

/-- The word of a position. -/
def word {n : ℕ} (p : Fin n) : BitVec 32 := BitVec.ofNat 32 p.val

/-- The first two columns of `[8192, 16]`. -/
def front (i : Fin 8192) (k : Fin 2) : S8192x16.Idx := fun d =>
  ⟨0 + ((ix2 i k : S8192x2.Idx) (d.cast sliceFits_S8192x16_S8192x2.1.symm)).val,
    Nat.lt_of_lt_of_le (Nat.add_lt_add_left (Fin.isLt _) _) (sliceFits_S8192x16_S8192x2.2 d)⟩

theorem front_zero (i : Fin 8192) (k : Fin 2) : front i k 0 = i := Fin.ext (Nat.zero_add _)

theorem front_one (i : Fin 8192) (k : Fin 2) : front i k 1 = k.castLE (by decide) := Fin.ext (Nat.zero_add _)

theorem topVals_place (D : FVec Ideal S8192x16 .f32) (i : Fin 8192) (k : Fin 2) :
    topVals D (ix2 i k) = D (ix2 i (place D i (k.castLE (by decide)))) := by
  refine Eq.trans (congrArg D (sorted_at D (front i k))) ?_
  rw [front_zero, front_one]
  rfl

theorem topIdxs_place (D : FVec Ideal S8192x16 .f32) (i : Fin 8192) (k : Fin 2) :
    topIdxs D (ix2 i k) = word (place D i (k.castLE (by decide))) := by
  refine Eq.trans (congrArg (iotaInDim S8192x16 32 1) (sorted_at D (front i k))) ?_
  rw [front_zero, front_one]
  rfl

/-- Real logits are compared as real numbers. -/
theorem place_real {D : FVec Ideal S8192x16 .f32} {i : Fin 8192} {l : Fin 16 → ℝ}
    (hD : ∀ c, D (ix2 i c) = ((l c : ℝ) : EReal)) (k : Fin 16) :
    place D i k = sortedFrom (fun p q => decide (l q < l p)) k := by
  unfold place
  refine congrFun (congrArg _ (funext fun p => funext fun q => ?_)) k
  rw [Ideal.cmpfTotal_def, hD, hD]
  by_cases h : l q < l p
  · simp [Ideal.cmp, CmpDirection.ordered, h]
  · simp [Ideal.cmp, CmpDirection.ordered, h]

variable {D : FVec Ideal S8192x16 .f32} {i : Fin 8192} {l : Fin 16 → ℝ} {a b : Fin 16}

theorem topVals_fst (hD : ∀ c, D (ix2 i c) = ((l c : ℝ) : EReal)) (h : Top2 l a b) :
    topVals D (ix2 i 0) = ((l a : ℝ) : EReal) := by
  rw [topVals_place, place_real hD, hD]
  exact congrArg (fun p => ((l p : ℝ) : EReal)) (sorted_fst h)

theorem topVals_snd (hD : ∀ c, D (ix2 i c) = ((l c : ℝ) : EReal)) (h : Top2 l a b) :
    topVals D (ix2 i 1) = ((l b : ℝ) : EReal) := by
  rw [topVals_place, place_real hD, hD]
  exact congrArg (fun p => ((l p : ℝ) : EReal)) (sorted_snd h)

theorem topIdxs_fst (hD : ∀ c, D (ix2 i c) = ((l c : ℝ) : EReal)) (h : Top2 l a b) :
    topIdxs D (ix2 i 0) = word a := by
  rw [topIdxs_place, place_real hD]
  exact congrArg word (sorted_fst h)

theorem topIdxs_snd (hD : ∀ c, D (ix2 i c) = ((l c : ℝ) : EReal)) (h : Top2 l a b) :
    topIdxs D (ix2 i 1) = word b := by
  rw [topIdxs_place, place_real hD]
  exact congrArg word (sorted_snd h)

end Cert.ReferenceIdeal.Value
-- ==== Proof.RefPair.lean ====
module

public import proofs.«01_k».proof.Proof.TopK
public import Idealize.ShloMosaic.Lib.Pipeline.ValueKit

/-!
  The reference's two softmaxes at an index: of the two kept logits, and of all 16.
-/
@[expose] public section

set_option maxRecDepth 16384

noncomputable section

open Idealize.ShloMosaic
open scoped BigOperators

namespace Cert.ReferenceIdeal.Value

open Cert.ReferenceIdeal Cert.ReferenceIdeal.Gen Cert.Rows

/-- Each row's maximum, spread over its two columns. -/
def pairMax (V : FVec Ideal S8192x2 .f32) : FVec Ideal S8192x2 .f32 :=
  broadcastInDim S8192x2 ![0, 1] bcast_S8192x1_S8192x2_0_1 (broadcastInDim S8192x1 ![0] bcast_S8192_S8192x1_0
    (maximumf (broadcastInDim S8192 ![] bcast_S_S8192 (constant S_ .f32 0xFF800000#32))
      (Host.reduce FloatOps.maximumf V (constant S_ .f32 0xFF800000#32) reducesTo_S8192x2_S8192_d1 h_S_)))

def pairExp (V : FVec Ideal S8192x2 .f32) : FVec Ideal S8192x2 .f32 := Host.exp (subf V (pairMax V))

/-- Each row's sum, spread over its two columns. -/
def pairSum (E : FVec Ideal S8192x2 .f32) : FVec Ideal S8192x2 .f32 :=
  broadcastInDim S8192x2 ![0, 1] bcast_S8192x1_S8192x2_0_1 (broadcastInDim S8192x1 ![0] bcast_S8192_S8192x1_0
    (Host.reduceAdd E (constant S_ .f32 0x00000000#32) reducesTo_S8192x2_S8192_d1 h_S_))

/-- The softmax of each row of two. -/
def pairSoft (V : FVec Ideal S8192x2 .f32) : FVec Ideal S8192x2 .f32 := Host.divf (pairExp V) (pairSum (pairExp V))

section pair

variable {V : FVec Ideal S8192x2 .f32} {i : Fin 8192} {u v : ℝ}

theorem pairMax_at (h0 : V (ix2 i 0) = (u : EReal)) (h1 : V (ix2 i 1) = (v : EReal)) (hvu : v ≤ u) (k : Fin 2) :
    pairMax V (ix2 i k) = (u : EReal) := by
  pointwise [pairMax]
  rw [bits_neg_inf, fold_max_eq (fun x => V (ix2 i x)) 0 fun k => ?_, h0]
  · exact max_eq_right bot_le
  · fin_cases k
    · exact le_refl _
    · show V (ix2 i 1) ≤ V (ix2 i 0)
      rw [h0, h1]
      exact EReal.coe_le_coe_iff.mpr hvu

theorem pairExp_fst (h0 : V (ix2 i 0) = (u : EReal)) (h1 : V (ix2 i 1) = (v : EReal)) (hvu : v ≤ u) :
    pairExp V (ix2 i 0) = ((1 : ℝ) : EReal) := by
  pointwise [pairExp]
  rw [pairMax_at h0 h1 hvu, h0, ← EReal.coe_sub, Ideal.exp_coe, sub_self, Real.exp_zero]

theorem pairExp_snd (h0 : V (ix2 i 0) = (u : EReal)) (h1 : V (ix2 i 1) = (v : EReal)) (hvu : v ≤ u) :
    pairExp V (ix2 i 1) = ((Real.exp (v - u) : ℝ) : EReal) := by
  pointwise [pairExp]
  rw [pairMax_at h0 h1 hvu, h1, ← EReal.coe_sub, Ideal.exp_coe]

theorem pairSum_at (E : FVec Ideal S8192x2 .f32) (k : Fin 2) :
    pairSum E (ix2 i k) = E (ix2 i 0) + E (ix2 i 1) := by
  pointwise [pairSum]
  exact Fin.sum_univ_two _

theorem pairSoft_fst (h0 : V (ix2 i 0) = (u : EReal)) (h1 : V (ix2 i 1) = (v : EReal)) (hvu : v ≤ u) :
    pairSoft V (ix2 i 0) = ((1 / (1 + Real.exp (v - u)) : ℝ) : EReal) := by
  pointwise [pairSoft]
  rw [pairSum_at, pairExp_fst h0 h1 hvu, pairExp_snd h0 h1 hvu, ← EReal.coe_add, div_real _ _ (by positivity)]

theorem pairSoft_snd (h0 : V (ix2 i 0) = (u : EReal)) (h1 : V (ix2 i 1) = (v : EReal)) (hvu : v ≤ u) :
    pairSoft V (ix2 i 1) = ((Real.exp (v - u) * (1 / (1 + Real.exp (v - u))) : ℝ) : EReal) := by
  pointwise [pairSoft]
  rw [pairSum_at, pairExp_fst h0 h1 hvu, pairExp_snd h0 h1 hvu, ← EReal.coe_add, div_real _ _ (by positivity),
    mul_one_div]

end pair

/-! ## The softmax of all 16 logits -/

/-- Each row's maximum, spread over its columns. -/
def rowMax (D : FVec Ideal S8192x16 .f32) : FVec Ideal S8192x16 .f32 :=
  broadcastInDim S8192x16 ![0, 1] bcast_S8192x1_S8192x16_0_1 (broadcastInDim S8192x1 ![0] bcast_S8192_S8192x1_0
    (maximumf (broadcastInDim S8192 ![] bcast_S_S8192 (constant S_ .f32 0xFF800000#32))
      (Host.reduce FloatOps.maximumf D (constant S_ .f32 0xFF800000#32) reducesTo_S8192x16_S8192_d1 h_S_)))

def rowExp (D : FVec Ideal S8192x16 .f32) : FVec Ideal S8192x16 .f32 := Host.exp (subf D (rowMax D))

/-- Each row's sum, spread over its columns. -/
def rowSum (E : FVec Ideal S8192x16 .f32) : FVec Ideal S8192x16 .f32 :=
  broadcastInDim S8192x16 ![0, 1] bcast_S8192x1_S8192x16_0_1 (broadcastInDim S8192x1 ![0] bcast_S8192_S8192x1_0
    (Host.reduceAdd E (constant S_ .f32 0x00000000#32) reducesTo_S8192x16_S8192_d1 h_S_))

/-- The softmax of each row. -/
def rowSoft (D : FVec Ideal S8192x16 .f32) : FVec Ideal S8192x16 .f32 := Host.divf (rowExp D) (rowSum (rowExp D))

section row

variable {D : FVec Ideal S8192x16 .f32} {i : Fin 8192} {l : Fin 16 → ℝ} {a b : Fin 16}

theorem rowMax_at (hD : ∀ c, D (ix2 i c) = ((l c : ℝ) : EReal)) (h : Top2 l a b) (c : Fin 16) :
    rowMax D (ix2 i c) = ((l a : ℝ) : EReal) := by
  pointwise [rowMax]
  rw [bits_neg_inf, fold_max_eq (fun x => D (ix2 i x)) a fun k => ?_, hD]
  · exact max_eq_right bot_le
  · show D (ix2 i k) ≤ D (ix2 i a)
    rw [hD, hD]
    exact EReal.coe_le_coe_iff.mpr (h.le_fst k)

theorem rowExp_at (hD : ∀ c, D (ix2 i c) = ((l c : ℝ) : EReal)) (h : Top2 l a b) (c : Fin 16) :
    rowExp D (ix2 i c) = ((Real.exp (l c - l a) : ℝ) : EReal) := by
  pointwise [rowExp]
  rw [rowMax_at hD h, hD, ← EReal.coe_sub, Ideal.exp_coe]

theorem rowSum_at (E : FVec Ideal S8192x16 .f32) (c : Fin 16) : rowSum E (ix2 i c) = ∑ j, E (ix2 i j) := by
  pointwise [rowSum]

theorem rowSoft_at (hD : ∀ c, D (ix2 i c) = ((l c : ℝ) : EReal)) (h : Top2 l a b) (c : Fin 16) :
    rowSoft D (ix2 i c) = ((prob l a c : ℝ) : EReal) := by
  pointwise [rowSoft]
  simp only [rowSum_at, rowExp_at hD h]
  rw [← coe_sum, div_real _ _ (ne_of_gt (sum_exp_pos l (l a)))]
  rfl

end row

end Cert.ReferenceIdeal.Value
-- ==== Proof.RefGates.lean ====
module

public import proofs.«01_k».proof.Proof.RefPair
public import Idealize.ShloMosaic.Lib.Routing.OpsPair
public import Idealize.ShloMosaic.Lib.Routing.OpsSet
public import Idealize.ShloMosaic.Lib.Pointwise.IndexBridge

/-!
  The reference's table of gates: the softmax of the two kept logits written at their places, zero elsewhere.
-/
@[expose] public section

set_option maxRecDepth 16384

noncomputable section

open Idealize.ShloMosaic
open scoped BigOperators

namespace Cert.ReferenceIdeal.Value

open Cert.ReferenceIdeal Cert.ReferenceIdeal.Gen Cert.Rows

/-- The row numbers, as one column. -/
def rowCol : IVec S8192x1 32 := broadcastInDim S8192x1 ![0] bcast_S8192_S8192x1_0 (iotaInDim S8192 32 0)

/-- The row numbers wrapped into the table's range, a number for each of a row's two places. -/
def rowWords : IVec S8192x2x1 32 :=
  broadcastInDim S8192x2x1 ![0, 1] bcast_S8192x2_S8192x2x1_0_1 (broadcastInDim S8192x2 ![0, 1] bcast_S8192x1_S8192x2_0_1
    (select (cmpi .slt rowCol (broadcastInDim S8192x1 ![] bcast_S_S8192x1 (constantI S_ 32 0#32)))
      (addi rowCol (broadcastInDim S8192x1 ![] bcast_S_S8192x1 (constantI S_ 32 8192#32))) rowCol))

/-- The column numbers wrapped into the table's range. -/
def colWords (T : IVec S8192x2 32) : IVec S8192x2x1 32 :=
  broadcastInDim S8192x2x1 ![0, 1] bcast_S8192x2_S8192x2x1_0_1
    (select (cmpi .slt T (broadcastInDim S8192x2 ![] bcast_S_S8192x2 (constantI S_ 32 0#32)))
      (addi T (broadcastInDim S8192x2 ![] bcast_S_S8192x2 (constantI S_ 32 16#32))) T)

/-- The places the reference writes to: pairs of a row and a column. -/
def places (T : IVec S8192x2 32) : IVec S8192x2x2 32 :=
  concatenate S8192x2x2 2 [⟨S8192x2x1, rowWords⟩, ⟨S8192x2x1, colWords T⟩]
    concatenates_S8192x2x1_S8192x2x1_S8192x2x2_d2

/-- The reference's gates from the logits. -/
def gatesTerm (D : FVec Ideal S8192x16 .f32) : FVec Ideal S8192x16 .f32 :=
  Host.scatter scatter_S8192x16_S8192x2x2_S8192x2_n_01_01_2 (fun _ b => b)
    (broadcastInDim S8192x16 ![] bcast_S_S8192x16 (constant S_ .f32 0x00000000#32)) (places (topIdxs D)) (pairSoft (topVals D))

theorem word_wrap {n : ℕ} (p : Fin n) (hn : n ≤ 8192) (w : BitVec 32) :
    Scalar.select (IntOp.cmpi .slt (word p) 0#32) w (word p) = word p :=
  Routing.wrap_of_lt _ _ (by
    have := p.isLt
    unfold word
    rw [BitVec.toNat_ofNat, Nat.mod_eq_of_lt (by omega)]
    omega)

theorem word_toInt {n : ℕ} (p : Fin n) (hn : n ≤ 8192) : (word p).toInt = (p.val : ℤ) := by
  have := p.isLt
  unfold word
  rw [BitVec.toInt_eq_toNat_of_lt (by rw [BitVec.toNat_ofNat]; omega), BitVec.toNat_ofNat, Nat.mod_eq_of_lt (by omega)]

theorem rowWords_at (i : Fin 8192) (k : Fin 2) (z : Fin 1) : rowWords (ix3 i k z) = word i := by
  pointwise [rowWords, rowCol]
  exact word_wrap i le_rfl _

theorem colWords_at {T : IVec S8192x2 32} {i : Fin 8192} {k : Fin 2} {p : Fin 16} (h : T (ix2 i k) = word p) (z : Fin 1) :
    colWords T (ix3 i k z) = word p := by
  pointwise [colWords]
  rw [h]
  exact word_wrap p (by decide) _

theorem places_row (T : IVec S8192x2 32) (i : Fin 8192) (k : Fin 2) : places T (ix3 i k 0) = word i := by
  pointwise [places]
  exact rowWords_at i k _

theorem places_col {T : IVec S8192x2 32} {i : Fin 8192} {k : Fin 2} {p : Fin 16} (h : T (ix2 i k) = word p) :
    places T (ix3 i k 1) = word p := by
  pointwise [places]
  exact colWords_at h _

/-- The place of row `r` that update `(i, k)` writes: row `i`'s position. -/
theorem lands (T : IVec S8192x2 32) (i : Fin 8192) (k : Fin 2) (p : Fin 16) (h : T (ix2 i k) = word p) (r : Fin 8192) (c : Fin 16) :
    scatter_S8192x16_S8192x2x2_S8192x2_n_01_01_2.resultIdx? (ix2 i k) (places T) = some (ix2 r c) ↔ i = r ∧ p = c := by
  have e := Routing.scatter_lands2 scatter_S8192x16_S8192x2x2_S8192x2_n_01_01_2 rfl rfl rfl (places T) i k r c
  rw [← ix2_eq_valueIdx, ← ix2_eq_valueIdx, ← ix3_eq_valueIdx, ← ix3_eq_valueIdx, places_row, places_col h, word_toInt i le_rfl,
    word_toInt p (by decide)] at e
  rw [e]
  simp [Fin.ext_iff]

variable {D : FVec Ideal S8192x16 .f32} {l : Fin 8192 → Fin 16 → ℝ} {a b : Fin 8192 → Fin 16}

theorem soft_fst (hD : ∀ i c, D (ix2 i c) = ((l i c : ℝ) : EReal)) (h : ∀ i, Top2 (l i) (a i) (b i)) (i : Fin 8192) :
    pairSoft (topVals D) (ix2 i 0) = ((g1 (l i) (a i) (b i) : ℝ) : EReal) :=
  pairSoft_fst (topVals_fst (hD i) (h i)) (topVals_snd (hD i) (h i)) ((h i).le_fst _)

theorem soft_snd (hD : ∀ i c, D (ix2 i c) = ((l i c : ℝ) : EReal)) (h : ∀ i, Top2 (l i) (a i) (b i)) (i : Fin 8192) :
    pairSoft (topVals D) (ix2 i 1) = ((g2 (l i) (a i) (b i) : ℝ) : EReal) :=
  pairSoft_snd (topVals_fst (hD i) (h i)) (topVals_snd (hD i) (h i)) ((h i).le_fst _)

/-- Which updates land at `(r, c)`: row `r`'s first if `c` is its first position, its second if `c` is its second. -/
theorem lands_at (hD : ∀ i c, D (ix2 i c) = ((l i c : ℝ) : EReal)) (h : ∀ i, Top2 (l i) (a i) (b i)) (k : S8192x2.Idx)
    (r : Fin 8192) (c : Fin 16) :
    scatter_S8192x16_S8192x2x2_S8192x2_n_01_01_2.resultIdx? k (places (topIdxs D)) = some (ix2 r c)
      ↔ (k = ix2 r 0 ∧ a r = c) ∨ (k = ix2 r 1 ∧ b r = c) := by
  idx_vars k
  rename' k0 => i, k1 => q
  have h0 := lands (topIdxs D) i 0 _ (topIdxs_fst (hD i) (h i)) r c
  have h1 := lands (topIdxs D) i 1 _ (topIdxs_snd (hD i) (h i)) r c
  have e : ∀ (p q : Fin 2), (ix2 i p : S8192x2.Idx) = ix2 r q ↔ i = r ∧ p = q := fun p q =>
    ⟨fun e => ⟨congrFun e 0, congrFun e 1⟩, fun e => by rw [e.1, e.2]⟩
  fin_cases q
  · refine h0.trans ?_
    rw [e, e]
    constructor
    · rintro ⟨rfl, rfl⟩; exact .inl ⟨⟨rfl, rfl⟩, rfl⟩
    · rintro (⟨⟨rfl, _⟩, h⟩ | ⟨⟨_, h⟩, _⟩)
      · exact ⟨rfl, h⟩
      · exact absurd h (by decide)
  · refine h1.trans ?_
    rw [e, e]
    constructor
    · rintro ⟨rfl, rfl⟩; exact .inr ⟨⟨rfl, rfl⟩, rfl⟩
    · rintro (⟨⟨_, h⟩, _⟩ | ⟨⟨rfl, _⟩, h⟩)
      · exact absurd h (by decide)
      · exact ⟨rfl, h⟩

/-- The reference's gates. -/
theorem gatesTerm_at (hD : ∀ i c, D (ix2 i c) = ((l i c : ℝ) : EReal)) (h : ∀ i, Top2 (l i) (a i) (b i)) (r : Fin 8192)
    (c : Fin 16) : gatesTerm D (ix2 r c) = ((gate (l r) (a r) (b r) c : ℝ) : EReal) := by
  unfold gatesTerm gate
  by_cases ha : c = a r
  · rw [if_pos ha]
    refine Routing.scatter_set_hit _ _ _ _ _ _ (fun k hk => ?_) (ix2 r 0) ((lands_at hD h _ r c).mpr (.inl ⟨rfl, ha.symm⟩))
    rcases (lands_at hD h k r c).mp hk with ⟨rfl, _⟩ | ⟨_, hb⟩
    · exact soft_fst hD h r
    · exact absurd (hb.trans ha) (h r).ne
  · rw [if_neg ha]
    by_cases hb : c = b r
    · rw [if_pos hb]
      refine Routing.scatter_set_hit _ _ _ _ _ _ (fun k hk => ?_) (ix2 r 1) ((lands_at hD h _ r c).mpr (.inr ⟨rfl, hb.symm⟩))
      rcases (lands_at hD h k r c).mp hk with ⟨_, e⟩ | ⟨rfl, _⟩
      · exact absurd e.symm ha
      · exact soft_snd hD h r
    · rw [if_neg hb]
      refine (Routing.scatter_set_miss _ _ _ _ _ fun k hk => ?_).trans ?_
      · rcases (lands_at hD h k r c).mp hk with ⟨_, e⟩ | ⟨_, e⟩
        · exact ha e.symm
        · exact hb e.symm
      · pointwise
        exact EReal.coe_zero.symm

end Cert.ReferenceIdeal.Value
-- ==== Proof.RefLoss.lean ====
module

public import proofs.«01_k».proof.Proof.RefGates

/-!
  The reference's load-balancing loss, from the logits and the table of gates.
-/
@[expose] public section

set_option maxRecDepth 16384

noncomputable section

open Idealize.ShloMosaic
open scoped BigOperators

namespace Cert.ReferenceIdeal.Value

open Cert.ReferenceIdeal Cert.ReferenceIdeal.Gen Cert.Rows

/-- The mean over the rows. -/
def colMean (P : FVec Ideal S8192x16 .f32) : FVec Ideal S16 .f32 :=
  Host.divf (Host.reduceAdd P (constant S_ .f32 0x00000000#32) reducesTo_S8192x16_S16_d0 h_S_)
    (broadcastInDim S16 ![] bcast_S_S16 (constant S_ .f32 0x46000000#32))

/-- One where a gate is positive, zero elsewhere. -/
def positive (G : FVec Ideal S8192x16 .f32) : FVec Ideal S8192x16 .f32 :=
  uitofp .f32 (cmpf .ogt G (broadcastInDim S8192x16 ![] bcast_S_S8192x16 (constant S_ .f32 0x00000000#32)))

/-- The reference's loss from the logits and the gates. -/
def lossTerm (D G : FVec Ideal S8192x16 .f32) : FVec Ideal S_ .f32 :=
  mulf (constant S_ .f32 0x41800000#32)
    (Host.reduceAdd (mulf (colMean (rowSoft D)) (colMean (positive G))) (constant S_ .f32 0x00000000#32) reducesTo_S16_S_d0 h_S_)

theorem colMean_at (P : FVec Ideal S8192x16 .f32) (f : Fin 8192 → Fin 16 → ℝ) (h : ∀ i c, P (ix2 i c) = ((f i c : ℝ) : EReal))
    (c : Fin 16) : colMean P (ix1 c) = (((∑ i, f i c) / 8192 : ℝ) : EReal) := by
  pointwise [colMean]
  simp only [h]
  rw [bits_8192, ← coe_sum, div_real _ _ (by norm_num)]

theorem positive_at (G : FVec Ideal S8192x16 .f32) (g : ℝ) (i : Fin 8192) (c : Fin 16) (h : G (ix2 i c) = ((g : ℝ) : EReal)) :
    positive G (ix2 i c) = ((if 0 < g then (1 : ℝ) else 0 : ℝ) : EReal) := by
  pointwise [positive]
  rw [h]
  show ((((BitVec.ofBool (decide ((0 : EReal) < (g : EReal)))).toNat : ℝ)) : EReal) = _
  by_cases hg : 0 < g <;> simp [hg]

/-- A gate is positive exactly at the two kept positions. -/
theorem gate_pos (l : Fin 16 → ℝ) (a b c : Fin 16) : (if 0 < gate l a b c then (1 : ℝ) else 0) = hit a b c := by
  unfold gate hit
  by_cases ha : c = a
  · simp [ha, g1_pos]
  · by_cases hb : c = b
    · subst hb
      simp [ha, g2_pos]
    · simp [ha, hb]

variable {D G : FVec Ideal S8192x16 .f32} {l : Fin 8192 → Fin 16 → ℝ} {a b : Fin 8192 → Fin 16}

/-- The reference's loss. -/
theorem lossTerm_at (hD : ∀ i c, D (ix2 i c) = ((l i c : ℝ) : EReal)) (h : ∀ i, Top2 (l i) (a i) (b i))
    (hG : ∀ i c, G (ix2 i c) = ((gate (l i) (a i) (b i) c : ℝ) : EReal)) (j : S_.Idx) :
    lossTerm D G j = ((loss l a b : ℝ) : EReal) := by
  pointwise [lossTerm]
  rw [bits_16]
  simp only [colMean_at (rowSoft D) (fun i c => prob (l i) (a i) c) fun i c => rowSoft_at (hD i) (h i) c,
    colMean_at (positive G) (fun i c => hit (a i) (b i) c) fun i c => by rw [positive_at G _ i c (hG i c), gate_pos],
    ← EReal.coe_mul, ← coe_sum]
  rfl

end Cert.ReferenceIdeal.Value
-- ==== Proof.RefRun.lean ====
module

public import proofs.«01_k».proof.Proof.RefLoss
public import proofs.«01_k».proof.Proof.Gen.ReferenceIdeal.Run

/-!
  The reference's run: from real logits its two results are the table of gates and the loss.
-/
@[expose] public section

set_option maxRecDepth 16384

noncomputable section

open Idealize.ShloMosaic Idealize.ShloMosaic.TcCoe Idealize.SL.Sem
open scoped BigOperators

namespace Cert.ReferenceIdeal.Value

open Cert.ReferenceIdeal Cert.ReferenceIdeal.Gen Cert.Rows

/-- The logits. -/
def logitsTerm (X : FVec Ideal S8192x2048 .f32) (W : FVec Ideal S2048x16 .f32) : FVec Ideal S8192x16 .f32 :=
  Host.dotGeneral dot_S8192x2048_S2048x16_S8192x16_1_0_0_1_n_n none X W

theorem logitsTerm_at (X : FVec Ideal S8192x2048 .f32) (W : FVec Ideal S2048x16 .f32) (i : Fin 8192) (c : Fin 16) :
    logitsTerm X W (ix2 i c) = ∑ d : Fin 2048, X (ix2 i d) * W (ix2 d c) := by
  pointwise [logitsTerm]

variable (m : (ℓ : Loc nD τ sig) → Buf (Elt Ideal) ℓ)

/-- Entry `(i, d)` of the `x` that device `c` is given, and entry `(d, j)` of its `w_gate`. -/
abbrev xOf (c : Dev nD) (i : Fin 8192) (d : Fin 2048) : EReal := (m ((c.tc : Thread nD τ).loc main_arg0) : FVec Ideal S8192x2048 .f32) (ix2 i d)
abbrev wOf (c : Dev nD) (d : Fin 2048) (j : Fin 16) : EReal := (m ((c.tc : Thread nD τ).loc main_arg1) : FVec Ideal S2048x16 .f32) (ix2 d j)

/-- The logits device `c` computes. -/
abbrev logits (c : Dev nD) : FVec Ideal S8192x16 .f32 := logitsTerm (m ((c.tc : Thread nD τ).loc main_arg0)) (m ((c.tc : Thread nD τ).loc main_arg1))

/-- The loss's generated term is `lossTerm` of the logits and the gates. -/
theorem loss_eq (c : Dev nD) : res_main_v52 m c = lossTerm (logits m c) (gatesTerm (logits m c)) := rfl

variable {m}

/-- The reference's two results on each device, from real logits. -/
theorem results (ρ : Dev nD → PrngReg) (l : Dev nD → Fin 8192 → Fin 16 → ℝ) (a b : Dev nD → Fin 8192 → Fin 16)
    (h : ∀ c, Logits (xOf m c) (wOf m c) (l c) (a c) (b c)) :
    θ_run defs (onTc (τ := τ) (main (F := Ideal))) ⟨m, fun _ => 0, ρ⟩ fun r => ∀ c : Dev nD,
      (∀ i j, (r.2.mem ((c.tc : Thread nD τ).loc main_v29) : FVec Ideal S8192x16 .f32) (ix2 i j) = ((gate (l c i) (a c i) (b c i) j : ℝ) : EReal))
      ∧ (∀ j, (r.2.mem ((c.tc : Thread nD τ).loc main_v52) : FVec Ideal S_ .f32) j = ((loss (l c) (a c) (b c) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r hr c => ?_) (run m ρ)
  obtain ⟨h0, h1, h2⟩ := hr c
  have hD : ∀ i j, logits m c (ix2 i j) = ((l c i j : ℝ) : EReal) := fun i j =>
    (logitsTerm_at _ _ i j).trans ((h c).dot i j)
  have hG := gatesTerm_at hD (h c).top
  have h0' : r.2.mem ((c.tc : Thread nD τ).loc main_v29) = gatesTerm (logits m c) := h0
  refine ⟨fun i j => (congrFun h0' _).trans (hG i j), fun j => ?_, h2⟩
  exact (congrFun (h1.trans (loss_eq m c)) j).trans (lossTerm_at hD (h c).top hG j)

end Cert.ReferenceIdeal.Value
-- ==== Proof.Pre.lean ====
module

public import proofs.«01_k».proof.Pre_finite
public import proofs.«01_k».proof.Proof.Rows
public import Idealize.ShloMosaic.Lib.ReduceAll

/-!
  The precondition: every entry of `x` and of `w_gate` is a real number.
-/
@[expose] public section

set_option maxRecDepth 16384

noncomputable section

open Idealize.ShloMosaic
open scoped BigOperators

namespace Cert.Pre_finite.Value

open Cert.Pre_finite Cert.Rows

instance facts : Cert.Pre_finite.Facts where
  bcast_S_S8192x2048 := by decide
  reducesTo_S8192x2048_S_d0_1 := by decide
  h_S_ := by decide
  bcast_S_S2048x16 := by decide
  reducesTo_S2048x16_S_d0_1 := by decide

/-- An extended real of absolute value below `∞` is a real number. -/
theorem real_of_lt (y : EReal) (h : Ideal.cmp .olt (max y (-y)) ⊤ = 1#1) : ((y.toReal : ℝ) : EReal) = y := by
  have hlt : max y (-y) < ⊤ := by
    by_contra hn
    simp [Ideal.cmp, hn] at h
  refine EReal.coe_toReal (fun e => ?_) (fun e => ?_) <;> subst e <;> simp at hlt

theorem both_one (u v : BitVec 1) (h : IntOp.andi u v = 1#1) : u = 1#1 ∧ v = 1#1 := by
  revert u v; decide

/-- Under the precondition each entry of the first two arguments is a real number. -/
theorem real_of_finite (X : FVec Ideal S8192x2048 .f32) (W N : FVec Ideal S2048x16 .f32)
    (h : Cert.Pre_finite.fn (F := Ideal) X W N = fun _ => 1#1) :
    (∀ i, (((X i).toReal : ℝ) : EReal) = X i) ∧ ∀ i, (((W i).toReal : ℝ) : EReal) = W i := by
  haveI : Subsingleton S_.Idx := ⟨fun p q => funext fun d => d.elim0⟩
  obtain ⟨hx, hw⟩ := both_one _ _ (congrFun h fun d => d.elim0)
  refine ⟨fun i => ?_, fun i => ?_⟩
  · have e := Host.reduce_andi_all _ _ _ _ _ hx i
    refine real_of_lt (X i) ?_
    rw [← bits_pos_inf]
    exact e
  · have e := Host.reduce_andi_all _ _ _ _ _ hw i
    refine real_of_lt (W i) ?_
    rw [← bits_pos_inf]
    exact e

/-- Real entries have real logits, and each row of logits has its two kept positions. -/
theorem exists_logits (x : Fin 8192 → Fin 2048 → EReal) (w : Fin 2048 → Fin 16 → EReal)
    (hx : ∀ i d, (((x i d).toReal : ℝ) : EReal) = x i d) (hw : ∀ d c, (((w d c).toReal : ℝ) : EReal) = w d c) :
    ∃ l a b, Logits x w l a b := by
  choose a b h using fun i => exists_top2 fun c => ∑ d, (x i d).toReal * (w d c).toReal
  refine ⟨_, a, b, fun i c => ?_, h⟩
  rw [coe_sum]
  exact Finset.sum_congr rfl fun d _ => by rw [EReal.coe_mul, hx, hw]

end Cert.Pre_finite.Value
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.KernelRun
public import proofs.«01_k».proof.Proof.RefRun
public import proofs.«01_k».proof.Proof.Pre

/-!
  The certificate. The kernel's frames are the generated ones, the reference's is its run (it has no semaphore), and
  the value claim puts the two runs together: from real inputs both programs end with the gates `Cert.Rows.gate` and
  the loss `Cert.Rows.loss` of the same logits.
-/
@[expose] public section

noncomputable section

namespace Cert.Proof

open Idealize.ShloMosaic Idealize.ShloMosaic.TcCoe Idealize.SL.Sem Cert.Rows

/-- The reference keeps its arguments and ends with every counter at zero. -/
theorem reference_frame : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- The kernel's two results are the reference's, from finite inputs. -/
theorem same_results : Cert.algebraic_KernelIdeal_ReferenceIdeal_pre_finite := by
  intro m ρ m' ρ' hpre hargs
  have hlog : ∀ c, ∃ l a b, Logits (Cert.KernelIdeal.Value.xOf m c) (Cert.KernelIdeal.Value.wOf m c) l a b := fun c => by
    obtain ⟨hx, hw⟩ := Cert.Pre_finite.Value.real_of_finite _ _ _ (hpre c)
    exact Cert.Pre_finite.Value.exists_logits _ _ (fun i d => hx _) (fun d j => hw _)
  choose l a b h using hlog
  have h' : ∀ c, Logits (Cert.ReferenceIdeal.Value.xOf m' c) (Cert.ReferenceIdeal.Value.wOf m' c) (l c) (a c) (b c) := fun c => by
    have ex : Cert.ReferenceIdeal.Value.xOf m' c = Cert.KernelIdeal.Value.xOf m c := by
      funext i d
      exact congrFun (hargs c).1 _
    have ew : Cert.ReferenceIdeal.Value.wOf m' c = Cert.KernelIdeal.Value.wOf m c := by
      funext d j
      exact congrFun (hargs c).2.1 _
    rw [ex, ew]
    exact h c
  refine ⟨fun c => Cert.KernelIdeal.Value.gatesOf (l c) (a c) (b c), fun c => Cert.KernelIdeal.Value.lossOf (l c) (a c) (b c),
    Cert.KernelIdeal.Value.run ρ l a b h, ?_⟩
  refine (θ_run Cert.ReferenceIdeal.defs _ _).mono (fun r hr c => ?_) (Cert.ReferenceIdeal.Value.results ρ' l a b h')
  obtain ⟨h0, h1, h2⟩ := hr c
  refine ⟨?_, ?_, h2⟩
  · funext j
    have hj : j = ix2 (j 0) (j 1) := by
      funext d
      fin_cases d <;> rfl
    rw [hj]
    exact h0 _ _
  · funext j
    exact h1 j

theorem claim : Cert.Claim :=
  ⟨Cert.Kernel.Gen.facts, Cert.KernelIdeal.Gen.facts, Cert.ReferenceIdeal.Gen.facts, Cert.Pre_finite.Value.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    same_results⟩

end Cert.Proof
